-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16x64x256 : Shape := ⟨4, ![4, 16, 64, 256]⟩
abbrev S4x16x256 : Shape := ⟨3, ![4, 16, 256]⟩
abbrev S4x16x64 : Shape := ⟨3, ![4, 16, 64]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4x16x256 : S_.BroadcastsInDim S4x16x256 (![] : Fin 0 → Fin S4x16x256.rank)
  bcast_S_S512x256 : S_.BroadcastsInDim S512x256 (![] : Fin 0 → Fin S512x256.rank)
  bcast_S_S1 : S_.BroadcastsInDim S1 (![] : Fin 0 → Fin S1.rank)

variable [Facts]

def fn_part1 {F : FTy → Type} [FloatOps F] (main_arg8 : FVec F S1 .f32) (main_v4 : IVec S4x16x256 1) (main_v9 : IVec S4x16x256 1) (main_v14 : IVec S512x256 1) (main_v16 : IVec S1 1) : IVec S4x16x256 1 × IVec S4x16x256 1 × IVec S512x256 1 × IVec S1 1 :=
  let main_cst_6 : FVec F S_ .f32 := constant S_ .f32 0x7F800000#32
  let main_v17 : FVec F S1 .f32 := broadcastInDim S1 ![] bcast_S_S1 main_cst_6
  let main_v18 : IVec S1 1 := cmpf .olt main_arg8 main_v17
  let main_v19 : IVec S1 1 := andi main_v16 main_v18
  (main_v4, main_v9, main_v14, main_v19)

def fn {F : FTy → Type} [FloatOps F] (main_arg0 : FVec F S4x16x64x256 .f32) (main_arg1 : FVec F S4x16x256 .f32) (main_arg2 : FVec F S4x16x64x256 .f32) (main_arg3 : FVec F S4x16x256 .f32) (main_arg4 : FVec F S4x16x64 .f32) (main_arg5 : FVec F S512x256 .f32) (main_arg6 : FVec F S256 .f32) (main_arg7 : FVec F S256x1 .f32) (main_arg8 : FVec F S1 .f32) (main_arg9 : FVec F S512x256 .f32) (main_arg10 : FVec F S256 .f32) : IVec S4x16x256 1 × IVec S4x16x256 1 × IVec S512x256 1 × IVec S1 1 :=
  let main_cst : FVec F S_ .f32 := constant S_ .f32 0xFF800000#32
  let main_v0 : FVec F S4x16x256 .f32 := broadcastInDim S4x16x256 ![] bcast_S_S4x16x256 main_cst
  let main_v1 : IVec S4x16x256 1 := cmpf .ogt main_arg1 main_v0
  let main_cst_0 : FVec F S_ .f32 := constant S_ .f32 0x7F800000#32
  let main_v2 : FVec F S4x16x256 .f32 := broadcastInDim S4x16x256 ![] bcast_S_S4x16x256 main_cst_0
  let main_v3 : IVec S4x16x256 1 := cmpf .olt main_arg1 main_v2
  let main_v4 : IVec S4x16x256 1 := andi main_v1 main_v3
  let main_cst_1 : FVec F S_ .f32 := constant S_ .f32 0xFF800000#32
  let main_v5 : FVec F S4x16x256 .f32 := broadcastInDim S4x16x256 ![] bcast_S_S4x16x256 main_cst_1
  let main_v6 : IVec S4x16x256 1 := cmpf .ogt main_arg3 main_v5
  let main_cst_2 : FVec F S_ .f32 := constant S_ .f32 0x7F800000#32
  let main_v7 : FVec F S4x16x256 .f32 := broadcastInDim S4x16x256 ![] bcast_S_S4x16x256 main_cst_2
  let main_v8 : IVec S4x16x256 1 := cmpf .olt main_arg3 main_v7
  let main_v9 : IVec S4x16x256 1 := andi main_v6 main_v8
  let main_cst_3 : FVec F S_ .f32 := constant S_ .f32 0xFF800000#32
  let main_v10 : FVec F S512x256 .f32 := broadcastInDim S512x256 ![] bcast_S_S512x256 main_cst_3
  let main_v11 : IVec S512x256 1 := cmpf .ogt main_arg5 main_v10
  let main_cst_4 : FVec F S_ .f32 := constant S_ .f32 0x7F800000#32
  let main_v12 : FVec F S512x256 .f32 := broadcastInDim S512x256 ![] bcast_S_S512x256 main_cst_4
  let main_v13 : IVec S512x256 1 := cmpf .olt main_arg5 main_v12
  let main_v14 : IVec S512x256 1 := andi main_v11 main_v13
  let main_cst_5 : FVec F S_ .f32 := constant S_ .f32 0xFF800000#32
  let main_v15 : FVec F S1 .f32 := broadcastInDim S1 ![] bcast_S_S1 main_cst_5
  let main_v16 : IVec S1 1 := cmpf .ogt main_arg8 main_v15
  fn_part1 (F := F) main_arg8 main_v4 main_v9 main_v14 main_v16
-- ==== Kernel.lean ====
abbrev S4x16x64x256 : Shape := ⟨4, ![4, 16, 64, 256]⟩
abbrev S4x16x256 : Shape := ⟨3, ![4, 16, 256]⟩
abbrev S4x16x64 : Shape := ⟨3, ![4, 16, 64]⟩
abbrev S512x256 : Shape := ⟨2, ![512, 256]⟩
abbrev S256 : Shape := ⟨1, ![256]⟩
abbrev S256x1 : Shape := ⟨2, ![256, 1]⟩
abbrev S1 : Shape := ⟨1, ![1]⟩
abbrev S4x1024x256 : Shape := ⟨3, ![4, 1024, 256]⟩
abbrev S4x1x1024 : Shape := ⟨3, ![4, 1, 1024]⟩
abbrev S1x256 : Shape := ⟨2, ![1, 256]⟩
abbrev S1x1024x256 : Shape := ⟨3, ![1, 1024, 256]⟩
abbrev S1x16x256 : Shape := ⟨3, ![1, 16, 256]⟩
abbrev S1x1x1024 : Shape := ⟨3, ![1, 1, 1024]⟩
abbrev S1024x256 : Shape := ⟨2, ![1024, 256]⟩
abbrev S16x256 : Shape := ⟨2, ![16, 256]⟩
abbrev S1x1024 : Shape := ⟨2, ![1, 1024]⟩
abbrev S1024x512 : Shape := ⟨2, ![1024, 512]⟩
abbrev S16x512 : Shape := ⟨2, ![16, 512]⟩
abbrev S1x1x256 : Shape := ⟨3, ![1, 1, 256]⟩
abbrev S4x256 : Shape := ⟨2, ![4, 256]⟩
abbrev S4x1x256 : Shape := ⟨3, ![4, 1, 256]⟩
abbrev S4x1024 : Shape := ⟨2, ![4, 1024]⟩
abbrev S16x1024 : Shape := ⟨2, ![16, 1024]⟩
abbrev S16 : Shape := ⟨1, ![16]⟩
abbrev S16x1 : Shape := ⟨2, ![16, 1]⟩

abbrev nBuf : Space → Nat
  | .hbm => 18
  | .vmem => 17
  | .smem => 0
  | _ => 0

abbrev bufTy : (tb : Table) → Fin (tcTables nBuf tb) → BufTy
  | .hbm, ⟨0, _⟩ => ⟨S4x16x64x256, .f32⟩
  | .hbm, ⟨1, _⟩ => ⟨S4x16x256, .f32⟩
  | .hbm, ⟨2, _⟩ => ⟨S4x16x64x256, .f32⟩
  | .hbm, ⟨3, _⟩ => ⟨S4x16x256, .f32⟩
  | .hbm, ⟨4, _⟩ => ⟨S4x16x64, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S512x256, .f32⟩
  | .hbm, ⟨10, _⟩ => ⟨S256, .f32⟩
  | .hbm, ⟨11, _⟩ => ⟨S4x1024x256, .f32⟩
  | .hbm, ⟨12, _⟩ => ⟨S4x1024x256, .f32⟩
  | .hbm, ⟨13, _⟩ => ⟨S4x1x1024, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S4x16x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | .local _ .vmem, ⟨8, _⟩ => ⟨S1x1x1024, .f32⟩
  | .local _ .vmem, ⟨9, _⟩ => ⟨S1x1x1024, .f32⟩
  | .local _ .vmem, ⟨10, _⟩ => ⟨S512x256, .f32⟩
  | .local _ .vmem, ⟨11, _⟩ => ⟨S1x256, .f32⟩
  | .local _ .vmem, ⟨12, _⟩ => ⟨S1x256, .f32⟩
  | .local _ .vmem, ⟨13, _⟩ => ⟨S512x256, .f32⟩
  | .local _ .vmem, ⟨14, _⟩ => ⟨S1x256, .f32⟩
  | .local _ .vmem, ⟨15, _⟩ => ⟨S1x16x256, .f32⟩
  | .local _ .vmem, ⟨16, _⟩ => ⟨S1x16x256, .f32⟩
  | _, _ => ⟨S4x16x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x16x64x256 : Shape := ⟨4, ![4, 16, 64, 256]⟩
abbrev S4x16x256 : Shape := ⟨3, ![4, 16, 256]⟩
abbrev S4x16x64 : Shape := ⟨3, ![4, 16, 64]⟩
abbrev S512x256 : Shape := ⟨2, ![512, 256]⟩
abbrev S256 : Shape := ⟨1, ![256]⟩
abbrev S256x1 : Shape := ⟨2, ![256, 1]⟩
abbrev S1 : Shape := ⟨1, ![1]⟩
abbrev S4x1024x256 : Shape := ⟨3, ![4, 1024, 256]⟩
abbrev S4x1024 : Shape := ⟨2, ![4, 1024]⟩
abbrev S4x1024x512 : Shape := ⟨3, ![4, 1024, 512]⟩
abbrev S4x16x512 : Shape := ⟨3, ![4, 16, 512]⟩
abbrev S4x1x1024x512 : Shape := ⟨4, ![4, 1, 1024, 512]⟩
abbrev S4x16x1x512 : Shape := ⟨4, ![4, 16, 1, 512]⟩
abbrev S4x16x1024x512 : Shape := ⟨4, ![4, 16, 1024, 512]⟩
abbrev S4x16x1024x256 : Shape := ⟨4, ![4, 16, 1024, 256]⟩
abbrev S1x1x1x256 : Shape := ⟨4, ![1, 1, 1, 256]⟩
abbrev S4x16x1024x1 : Shape := ⟨4, ![4, 16, 1024, 1]⟩
abbrev S1x1x1x1 : Shape := ⟨4, ![1, 1, 1, 1]⟩
abbrev S4x16x1024 : Shape := ⟨3, ![4, 16, 1024]⟩
abbrev S4x1x1024 : Shape := ⟨3, ![4, 1, 1024]⟩
abbrev S_ : Shape := ⟨0, ![]⟩
abbrev S4x16 : Shape := ⟨2, ![4, 16]⟩
abbrev S4x16x1 : Shape := ⟨3, ![4, 16, 1]⟩
abbrev S1x1x256 : Shape := ⟨3, ![1, 1, 256]⟩

abbrev nBuf : Space → Nat
  | .hbm => 60
  | .vmem => 0
  | .smem => 0
  | _ => 0

abbrev bufTy : (tb : Table) → Fin (tcTables nBuf tb) → BufTy
  | .hbm, ⟨0, _⟩ => ⟨S4x16x64x256, .f32⟩
  | .hbm, ⟨1, _⟩ => ⟨S4x16x256, .f32⟩
  | .hbm, ⟨2, _⟩ => ⟨S4x16x64x256, .f32⟩
  | .hbm, ⟨3, _⟩ => ⟨S4x16x256, .f32⟩
  | .hbm, ⟨4, _⟩ => ⟨S4x16x64, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S512x256, .f32⟩
  | .hbm, ⟨10, _⟩ => ⟨S256, .f32⟩
  | .hbm, ⟨11, _⟩ => ⟨S4x1024x256, .f32⟩
  | .hbm, ⟨12, _⟩ => ⟨S4x1024x256, .f32⟩
  | .hbm, ⟨13, _⟩ => ⟨S4x1024, .f32⟩
  | .hbm, ⟨14, _⟩ => ⟨S4x1024x512, .f32⟩
  | .hbm, ⟨15, _⟩ => ⟨S4x16x512, .f32⟩
  | .hbm, ⟨16, _⟩ => ⟨S4x1x1024x512, .f32⟩
  | .hbm, ⟨17, _⟩ => ⟨S4x16x1x512, .f32⟩
  | .hbm, ⟨18, _⟩ => ⟨S4x16x1024x512, .f32⟩
  | .hbm, ⟨19, _⟩ => ⟨S4x16x1024x512, .f32⟩
  | .hbm, ⟨20, _⟩ => ⟨S4x16x1024x512, .f32⟩
  | .hbm, ⟨21, _⟩ => ⟨S4x16x1024x256, .f32⟩
  | .hbm, ⟨22, _⟩ => ⟨S1x1x1x256, .f32⟩
  | .hbm, ⟨23, _⟩ => ⟨S4x16x1024x256, .f32⟩
  | .hbm, ⟨24, _⟩ => ⟨S4x16x1024x256, .f32⟩
  | .hbm, ⟨25, _⟩ => ⟨S4x16x1024x256, .f32⟩
  | .hbm, ⟨26, _⟩ => ⟨S4x16x1024x1, .f32⟩
  | .hbm, ⟨27, _⟩ => ⟨S1x1x1x1, .f32⟩
  | .hbm, ⟨28, _⟩ => ⟨S4x16x1024x1, .f32⟩
  | .hbm, ⟨29, _⟩ => ⟨S4x16x1024x1, .f32⟩
  | .hbm, ⟨30, _⟩ => ⟨S4x16x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .i1⟩
  | .hbm, ⟨35, _⟩ => ⟨S_, .f32⟩
  | .hbm, ⟨36, _⟩ => ⟨S_, .f32⟩
  | .hbm, ⟨37, _⟩ => ⟨S4x16x1024, .i1⟩
  | .hbm, ⟨38, _⟩ => ⟨S4x16x1024, .f32⟩
  | .hbm, ⟨39, _⟩ => ⟨S4x16x1024, .f32⟩
  | .hbm, ⟨40, _⟩ => ⟨S_, .f32⟩
  | .hbm, ⟨41, _⟩ => ⟨S4x16, .f32⟩
  | .hbm, ⟨42, _⟩ => ⟨S_, .f32⟩
  | .hbm, ⟨43, _⟩ => ⟨S4x16, .f32⟩
  | .hbm, ⟨44, _⟩ => ⟨S4x16, .f32⟩
  | .hbm, ⟨45, _⟩ => ⟨S4x16x1, .f32⟩
  | .hbm, ⟨46, _⟩ => ⟨S4x16x1024, .f32⟩
  | .hbm, ⟨47, _⟩ => ⟨S4x16x1024, .f32⟩
  | .hbm, ⟨48, _⟩ => ⟨S4x16x1024, .f32⟩
  | .hbm, ⟨49, _⟩ => ⟨S_, .f32⟩
  | .hbm, ⟨50, _⟩ => ⟨S4x16, .f32⟩
  | .hbm, ⟨51, _⟩ => ⟨S4x16x1, .f32⟩
  | .hbm, ⟨52, _⟩ => ⟨S4x16x1024, .f32⟩
  | .hbm, ⟨53, _⟩ => ⟨S4x16x1024, .f32⟩
  | .hbm, ⟨54, _⟩ => ⟨S4x16x512, .f32⟩
  | .hbm, ⟨55, _⟩ => ⟨S4x16x512, .f32⟩
  | .hbm, ⟨56, _⟩ => ⟨S4x16x256, .f32⟩
  | .hbm, ⟨57, _⟩ => ⟨S1x1x256, .f32⟩
  | .hbm, ⟨58, _⟩ => ⟨S4x16x256, .f32⟩
  | .hbm, ⟨59, _⟩ => ⟨S4x16x256, .f32⟩
  | _, _ => ⟨S4x16x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.Spec.lean ====
/- What both programs compute, as plain formulas over the extended reals: one edu's masked softmax over the tokens, the
   pooled vector and the last linear layer, all as functions of the scores of the tokens. -/
module

public import Idealize.ShloMosaic.PureOps
public import Idealize.ShloMosaic.PureOps.Ideal

@[expose] public section

noncomputable section

namespace Cert.Attn

open Idealize.ShloMosaic

/-- The word a maximum starts from, read as an extended real, is minus infinity. -/
theorem neg_inf_value : (Ideal.ofBits .f32 0xFF800000#32 : EReal) = ⊥ := by
  simp [Ideal.ofBits, Ideal.ieee]

/-- Two rows of 256 entries side by side, as one row of 512. -/
def join (x y : Fin 256 → EReal) (h : Fin 512) : EReal :=
  if hh : h.val < 256 then x ⟨h.val, hh⟩ else y ⟨h.val - 256, by omega⟩

/-- The scores with every token whose mask is not positive at minus infinity. -/
def masked (mask s : Fin 1024 → EReal) (l : Fin 1024) : EReal :=
  if 0 < mask l then s l else ⊥

/-- The largest score. -/
def top (s : Fin 1024 → EReal) : EReal := Finset.univ.fold max ⊥ s

/-- The softmax weight of token `l`: the exponential of its distance from the largest score, divided by the sum of
    these exponentials. -/
def weight (s : Fin 1024 → EReal) (l : Fin 1024) : EReal :=
  Ideal.div (Ideal.exp (s l - top s)) (∑ k : Fin 1024, Ideal.exp (s k - top s))

/-- One entry of the result: the tokens' vectors pooled by the softmax weights, plus the weighted vector, through the
    last linear layer. -/
def output (emb : Fin 1024 → Fin 512 → EReal) (wtd : Fin 512 → EReal) (w3 : Fin 512 → EReal) (b3 : EReal)
    (s : Fin 1024 → EReal) : EReal :=
  (∑ h : Fin 512, ((∑ l : Fin 1024, weight s l * emb l h) + wtd h) * w3 h) + b3

/-- The kernel's score of a token: the first layer of the token's vector and of the weighted vector are taken
    separately and subtracted. -/
def kernelScore (x y : Fin 512 → EReal) (w1 : Fin 512 → Fin 256 → EReal) (b1 w2 : Fin 256 → EReal) : EReal :=
  ∑ k : Fin 256, Ideal.tanh ((∑ h : Fin 512, x h * w1 h k) - ((∑ h : Fin 512, y h * w1 h k) - b1 k)) * w2 k

/-- The reference's score of a token: the first layer of the difference of the two vectors, and the second layer with
    its bias. -/
def refScore (x y : Fin 512 → EReal) (w1 : Fin 512 → Fin 256 → EReal) (b1 w2 : Fin 256 → EReal) (b2 : EReal) : EReal :=
  (∑ k : Fin 256, Ideal.tanh ((∑ h : Fin 512, (x h - y h) * w1 h k) + b1 k) * w2 k) + b2

/-- The edu that token `l` of a document belongs to. -/
def edu (l : Fin 1024) : Fin 16 := ⟨l.val / 64, by omega⟩

/-- The place of token `l` in its edu. -/
def word (l : Fin 1024) : Fin 64 := ⟨l.val % 64, by omega⟩

/-- The vector of token `l`: its word's and its synonyms' vectors side by side. -/
def token (wa sa : Fin 16 → Fin 64 → Fin 256 → EReal) (l : Fin 1024) : Fin 512 → EReal :=
  join (wa (edu l) (word l)) (sa (edu l) (word l))

/-- One entry of the kernel's result, over one document (`wa`, `sa`, `mask`), one edu's weighted vectors (`ww`, `sw`),
    the layers' weights, and one column of the last layer. -/
def kernelEntry (wa sa : Fin 16 → Fin 64 → Fin 256 → EReal) (ww sw : Fin 256 → EReal) (mask : Fin 16 → Fin 64 → EReal)
    (w1 : Fin 512 → Fin 256 → EReal) (b1 w2 : Fin 256 → EReal) (w3 : Fin 512 → EReal) (b3 : EReal) : EReal :=
  output (token wa sa) (join ww sw) w3 b3
    (masked (fun l => mask (edu l) (word l)) fun l => kernelScore (token wa sa l) (join ww sw) w1 b1 w2)

/-- One entry of the reference's result, over the same, and the bias `b2` of the second layer. -/
def refEntry (wa sa : Fin 16 → Fin 64 → Fin 256 → EReal) (ww sw : Fin 256 → EReal) (mask : Fin 16 → Fin 64 → EReal)
    (w1 : Fin 512 → Fin 256 → EReal) (b1 w2 : Fin 256 → EReal) (b2 : EReal) (w3 : Fin 512 → EReal) (b3 : EReal) : EReal :=
  output (token wa sa) (join ww sw) w3 b3
    (masked (fun l => mask (edu l) (word l)) fun l => refScore (token wa sa l) (join ww sw) w1 b1 w2 b2)

end Cert.Attn

end
-- ==== Proof.Algebra.lean ====
/- The two identities that make the kernel's formula the reference's. Where the weighted vector and the first layer's
   weights are finite, the first layer of a difference is the difference of the first layers; and a finite bias added to
   every score leaves the softmax weights as they are, so the kernel may drop it. -/
module

public import proofs.«01_k».proof.Proof.Spec

@[expose] public section

noncomputable section

namespace Cert.Attn

open Idealize.ShloMosaic

/-- A finite sum of real numbers is the same sum taken in the extended reals. -/
theorem coe_sum {n : ℕ} (g : Fin n → ℝ) : ((∑ h, g h : ℝ) : EReal) = ∑ h, (g h : EReal) :=
  map_sum (⟨⟨Real.toEReal, EReal.coe_zero⟩, EReal.coe_add⟩ : ℝ →+ EReal) g _

/-- Subtracting a finite number is adding its opposite inside a product with a finite factor. -/
theorem sub_mul_real (x : EReal) (y w : ℝ) : (x - (y : EReal)) * (w : EReal) = x * (w : EReal) - ((y * w : ℝ) : EReal) := by
  induction x using EReal.rec with
  | bot =>
    rcases lt_trichotomy w 0 with hw | rfl | hw
    · rw [EReal.bot_sub, EReal.bot_mul_coe_of_neg hw, EReal.top_sub_coe]
    · simp
    · rw [EReal.bot_sub, EReal.bot_mul_coe_of_pos hw, EReal.bot_sub]
  | coe r => norm_cast; ring
  | top =>
    rcases lt_trichotomy w 0 with hw | rfl | hw
    · rw [EReal.top_sub_coe, EReal.top_mul_coe_of_neg hw, EReal.bot_sub]
    · simp
    · rw [EReal.top_sub_coe, EReal.top_mul_coe_of_pos hw, EReal.top_sub_coe]

/-- A sum of differences from finite numbers is the sum minus their sum. -/
theorem sum_sub_real {n : ℕ} (f : Fin n → EReal) (g : Fin n → ℝ) :
    ∑ h, (f h - (g h : EReal)) = (∑ h, f h) - ((∑ h, g h : ℝ) : EReal) := by
  simp only [sub_eq_add_neg, Finset.sum_add_distrib]
  congr 1
  rw [← EReal.coe_neg, ← Finset.sum_neg_distrib, coe_sum]
  simp only [EReal.coe_neg]

/-- Subtracting a difference from a finite number: the bias comes out with a plus sign. -/
theorem sub_real_sub (x b : EReal) (r : ℝ) : x - ((r : EReal) - b) = (x - (r : EReal)) + b := by
  rw [sub_eq_add_neg, sub_eq_add_neg x, EReal.neg_sub (Or.inl (EReal.coe_ne_bot r)) (Or.inl (EReal.coe_ne_top r)), add_assoc]

/-- The first layer of a difference, plus its bias, is the first layer of the token's vector minus the first layer of the
    weighted vector with the bias taken off. -/
theorem layer_eq {n : ℕ} (x : Fin n → EReal) (y w : Fin n → ℝ) (b : EReal) :
    (∑ h, (x h - (y h : EReal)) * (w h : EReal)) + b
      = (∑ h, x h * (w h : EReal)) - ((∑ h, (y h : EReal) * (w h : EReal)) - b) := by
  have e : (∑ h, (y h : EReal) * (w h : EReal)) = ((∑ h, y h * w h : ℝ) : EReal) := by
    rw [coe_sum]; simp only [EReal.coe_mul]
  rw [e, sub_real_sub]
  simp only [sub_mul_real, sum_sub_real]

/-- A finite bias added to both terms of a difference falls out. -/
theorem add_sub_add_real (x y : EReal) (b : ℝ) : (x + (b : EReal)) - (y + (b : EReal)) = x - y := by
  induction x using EReal.rec <;> induction y using EReal.rec <;>
    first
    | (norm_cast; ring_nf; done)
    | simp [← EReal.coe_add]

/-- A finite bias added to every score is added to the largest. -/
theorem top_add_real (s : Fin 1024 → EReal) (b : ℝ) : top (fun l => s l + (b : EReal)) = top s + (b : EReal) := by
  unfold top
  induction (Finset.univ : Finset (Fin 1024)) using Finset.induction_on with
  | empty => simp
  | insert a t ha ih =>
    rw [Finset.fold_insert ha, Finset.fold_insert ha, ih]
    exact ((add_left_mono (a := (b : EReal))).map_max).symm

/-- A finite bias added to every score leaves the softmax weights as they are. -/
theorem weight_add_real (s : Fin 1024 → EReal) (b : ℝ) : weight (fun l => s l + (b : EReal)) = weight s := by
  funext l
  simp only [weight, top_add_real, add_sub_add_real]

/-- A finite bias passes the mask: minus infinity plus a finite number is minus infinity. -/
theorem masked_add_real (mask s : Fin 1024 → EReal) (b : ℝ) :
    masked mask (fun l => s l + (b : EReal)) = fun l => masked mask s l + (b : EReal) := by
  funext l
  unfold masked
  split
  · rfl
  · rw [EReal.bot_add]

/-- The reference's score is the kernel's plus the second layer's bias, where the weighted vector and the first layer's
    weights are finite. -/
theorem refScore_eq (x : Fin 512 → EReal) (y : Fin 512 → ℝ) (w1 : Fin 512 → Fin 256 → ℝ) (b1 w2 : Fin 256 → EReal)
    (b2 : EReal) :
    refScore x (fun h => (y h : EReal)) (fun h k => (w1 h k : EReal)) b1 w2 b2
      = kernelScore x (fun h => (y h : EReal)) (fun h k => (w1 h k : EReal)) b1 w2 + b2 := by
  unfold refScore kernelScore
  congr 1
  refine Finset.sum_congr rfl fun k _ => ?_
  rw [layer_eq x y (fun h => w1 h k) (b1 k)]

/-- The kernel's result is the reference's, entry by entry, where the weighted vector, the first layer's weights and the
    second layer's bias are finite. -/
theorem output_eq (emb : Fin 1024 → Fin 512 → EReal) (y : Fin 512 → ℝ) (w1 : Fin 512 → Fin 256 → ℝ)
    (b1 w2 : Fin 256 → EReal) (b2 : ℝ) (w3 : Fin 512 → EReal) (b3 : EReal) (mask : Fin 1024 → EReal) :
    output emb (fun h => (y h : EReal)) w3 b3
        (masked mask fun l => kernelScore (emb l) (fun h => (y h : EReal)) (fun h k => (w1 h k : EReal)) b1 w2)
      = output emb (fun h => (y h : EReal)) w3 b3
        (masked mask fun l => refScore (emb l) (fun h => (y h : EReal)) (fun h k => (w1 h k : EReal)) b1 w2 b2) := by
  simp only [refScore_eq, masked_add_real, output, weight_add_real]

/-- Side by side, two rows of real numbers are a row of real numbers. -/
theorem join_real (x y : Fin 256 → EReal) (hx : ∀ i, ∃ r : ℝ, x i = (r : EReal)) (hy : ∀ i, ∃ r : ℝ, y i = (r : EReal)) :
    ∃ z : Fin 512 → ℝ, join x y = fun h => (z h : EReal) := by
  choose u hu using hx
  choose v hv using hy
  refine ⟨fun h => if hh : h.val < 256 then u ⟨h.val, hh⟩ else v ⟨h.val - 256, by omega⟩, funext fun h => ?_⟩
  unfold join
  by_cases hh : h.val < 256
  · simp only [hh, ↓reduceDIte, hu]
  · simp only [hh, ↓reduceDIte, hv]

/-- The kernel's entry is the reference's where the weighted vectors, the first layer's weights and the second layer's
    bias are real. -/
theorem entry_eq (wa sa : Fin 16 → Fin 64 → Fin 256 → EReal) (ww sw : Fin 256 → EReal) (mask : Fin 16 → Fin 64 → EReal)
    (w1 : Fin 512 → Fin 256 → EReal) (b1 w2 : Fin 256 → EReal) (b2 : EReal) (w3 : Fin 512 → EReal) (b3 : EReal)
    (hww : ∀ i, ∃ r : ℝ, ww i = (r : EReal)) (hsw : ∀ i, ∃ r : ℝ, sw i = (r : EReal))
    (hw1 : ∀ h k, ∃ r : ℝ, w1 h k = (r : EReal)) (hb2 : ∃ r : ℝ, b2 = (r : EReal)) :
    kernelEntry wa sa ww sw mask w1 b1 w2 w3 b3 = refEntry wa sa ww sw mask w1 b1 w2 b2 w3 b3 := by
  obtain ⟨z, hz⟩ := join_real ww sw hww hsw
  choose w hw using hw1
  obtain ⟨b, rfl⟩ := hb2
  obtain rfl : w1 = fun h k => (w h k : EReal) := funext fun h => funext (hw h)
  unfold kernelEntry refEntry
  rw [hz]
  exact output_eq (token wa sa) z w b1 w2 b w3 b3 _

end Cert.Attn

end
-- ==== Proof.Block.lean ====
/- What one grid point computes: the stored block, entry by entry, is the formula of Spec.lean over the loaded blocks. -/
module

public import proofs.«01_k».proof.Proof.Spec
public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Idealize.ShloMosaic

/-- The named constant of the masked scores is minus infinity. -/
theorem mask_value : Named.named (F := Ideal) (φ := .f32) κ "mask" 0xF149F2CA#32 = (⊥ : EReal) :=
  IdealRules.named_const.ideal_named_scalar _ _ _ _ rfl

/-- The words' and the synonyms' vectors of a token, side by side. -/
theorem emb_read (v0 v2 : Vec Ideal S1x1024x256 .f32) (l : Fin 1024) (h : Fin 512) :
    k0_pay4 v0 v2 (ix2 l h) = join (fun x => v0 (ix3 0 l x)) (fun x => v2 (ix3 0 l x)) h := by
  unfold join
  pointwise [k0_pay4]

/-- The two weighted vectors of an edu, side by side. -/
theorem wtd_read (v4 v6 : Vec Ideal S1x16x256 .f32) (e : Fin 16) (h : Fin 512) :
    k0_pay5 v4 v6 (ix2 e h) = join (fun x => v4 (ix3 0 e x)) (fun x => v6 (ix3 0 e x)) h := by
  unfold join
  pointwise [k0_pay5]

/-- The first layer of a token's vector. -/
theorem first_read (v0 v2 : Vec Ideal S1x1024x256 .f32) (w : Vec Ideal S512x256 .f32) (l : Fin 1024) (k : Fin 256) :
    k0_pay6 v0 v2 w (ix2 l k) =
      ∑ h : Fin 512, join (fun x => v0 (ix3 0 l x)) (fun x => v2 (ix3 0 l x)) h * w (ix2 h k) := by
  pointwise [k0_pay6]
  simp only [emb_read]

/-- The first layer of an edu's weighted vector, its bias taken off. -/
theorem query_read (v4 v6 : Vec Ideal S1x16x256 .f32) (w : Vec Ideal S512x256 .f32) (b : Vec Ideal S1x256 .f32)
    (e : Fin 16) (k : Fin 256) :
    k0_pay7 v4 v6 w b (ix2 e k) =
      (∑ h : Fin 512, join (fun x => v4 (ix3 0 e x)) (fun x => v6 (ix3 0 e x)) h * w (ix2 h k)) - b (ix2 0 k) := by
  pointwise [k0_pay7]
  simp only [wtd_read]

/-- The hyperbolic tangents of the first four edus, which are taken before the others'. -/
theorem tanh_read (v0 v2 : Vec Ideal S1x1024x256 .f32) (v4 v6 : Vec Ideal S1x16x256 .f32) (w : Vec Ideal S512x256 .f32)
    (b : Vec Ideal S1x256 .f32) (e : Fin 4) (l : Fin 1024) (k : Fin 256) :
    k0_pay9 v0 v2 v4 v6 w b (ix3 e l k) =
      Ideal.tanh (k0_pay6 v0 v2 w (ix2 l k) - k0_pay7 v4 v6 w b (ix2 ⟨e.val, by omega⟩ k)) := by
  pointwise [k0_pay9]

/-- The pooled vector plus the weighted vector, over the first layers `p` and `q`, with the tangents of the first four
    edus given: the four groups of four edus are one formula. -/
theorem pooled_read (mask : FVec Ideal S1x1024 .f32) (emb : FVec Ideal S1024x512 .f32) (wtd : FVec Ideal S16x512 .f32)
    (p : FVec Ideal S1024x256 .f32) (q : FVec Ideal S16x256 .f32) (w2 : FVec Ideal S1x1x256 .f32)
    (t : FVec Ideal S4x1024x256 .f32)
    (ht : ∀ (e : Fin 4) (l : Fin 1024) (k : Fin 256),
      t (ix3 e l k) = Ideal.tanh (p (ix2 l k) - q (ix2 ⟨e.val, by omega⟩ k)))
    (e : Fin 16) (h : Fin 512) :
    k0_pay10 mask emb wtd p q w2 t (ix2 e h) =
      (∑ l : Fin 1024, weight (masked (fun l => mask (ix2 0 l))
        fun l => ∑ k : Fin 256, Ideal.tanh (p (ix2 l k) - q (ix2 e k)) * w2 (ix3 0 0 k)) l * emb (ix2 l h))
      + wtd (ix2 e h) := by
  unfold weight top masked
  pointwise [k0_pay10]
  simp only [mask_value, neg_inf_value, ht]
  by_cases h1 : e.val < 4
  · simp only [h1, ↓reduceDIte]
  · by_cases h2 : e.val - 4 < 4
    · have hi : ∀ hb, (⟨4 + (e.val - 4), hb⟩ : Fin 16) = e := fun _ => Fin.ext (by simp only; omega)
      simp only [h1, h2, ↓reduceDIte, hi]
    · by_cases h3 : e.val - 4 - 4 < 4
      · have hi : ∀ hb, (⟨8 + (e.val - 4 - 4), hb⟩ : Fin 16) = e := fun _ => Fin.ext (by simp only; omega)
        simp only [h1, h2, h3, ↓reduceDIte, hi]
      · have hi : ∀ hb, (⟨12 + (e.val - 4 - 4 - 4), hb⟩ : Fin 16) = e := fun _ => Fin.ext (by simp only; omega)
        simp only [h1, h2, h3, ↓reduceDIte, hi]

/-- The last layer over a pooled vector. -/
theorem last_read (w3 : Vec Ideal S512x256 .f32) (b3 : FVec Ideal S1x256 .f32) (v : FVec Ideal S16x512 .f32)
    (e : Fin 16) (n : Fin 256) :
    k0_pay1 w3 b3 v (ix3 0 e n) = (∑ h : Fin 512, v (ix2 e h) * w3 (ix2 h n)) + b3 (ix2 0 n) := by
  pointwise [k0_pay1]

/-- The block a grid point stores, at edu `e` and column `n`, over the blocks it loads. -/
theorem stored_read (wa sa : Vec Ideal S1x1024x256 .f32) (ww sw : Vec Ideal S1x16x256 .f32)
    (mask : Vec Ideal S1x1x1024 .f32) (w1 : Vec Ideal S512x256 .f32) (b1 w2 : Vec Ideal S1x256 .f32)
    (w3 : Vec Ideal S512x256 .f32) (b3 : Vec Ideal S1x256 .f32) (e : Fin 16) (n : Fin 256) :
    k0_pay1 w3 (k0_pay3 b3) (k0_pay10 (k0_pay2 mask) (k0_pay4 wa sa) (k0_pay5 ww sw) (k0_pay6 wa sa w1)
        (k0_pay7 ww sw w1 b1) (k0_pay8 w2) (k0_pay9 wa sa ww sw w1 b1)) (ix3 0 e n) =
      output (fun l => join (fun x => wa (ix3 0 l x)) fun x => sa (ix3 0 l x))
        (join (fun x => ww (ix3 0 e x)) fun x => sw (ix3 0 e x)) (fun h => w3 (ix2 h n)) (b3 (ix2 0 n))
        (masked (fun l => mask (ix3 0 0 l)) fun l =>
          kernelScore (join (fun x => wa (ix3 0 l x)) fun x => sa (ix3 0 l x))
            (join (fun x => ww (ix3 0 e x)) fun x => sw (ix3 0 e x)) (fun h k => w1 (ix2 h k))
            (fun k => b1 (ix2 0 k)) fun k => w2 (ix2 0 k)) := by
  have hm : ∀ l : Fin 1024, k0_pay2 mask (ix2 0 l) = mask (ix3 0 0 l) := fun l => by pointwise [k0_pay2]
  have hb : k0_pay3 b3 (ix2 0 n) = b3 (ix2 0 n) := by pointwise [k0_pay3]
  have hw : ∀ k : Fin 256, k0_pay8 w2 (ix3 0 0 k) = w2 (ix2 0 k) := fun k => by pointwise [k0_pay8]
  unfold output kernelScore
  rw [last_read]
  simp only [pooled_read _ _ _ _ _ _ _ (tanh_read wa sa ww sw w1 b1), first_read, query_read, emb_read, wtd_read, hm, hb, hw]

end Cert.Attn

end
-- ==== Proof.KernelValue.lean ====
/- What the kernel leaves in its result array: at every document, edu and column, `kernelEntry` of Spec.lean over the
   arguments. -/
module

public import proofs.«01_k».proof.Proof.Block
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable (m : (ℓ : Loc nD τ sig) → Buf (Elt Ideal) ℓ) (c : Dev nD)

/-- Every window's block at a grid point: the point's document for the first five and the result, the whole array for
    the others. -/
theorem idx : ∀ t : Fin cfg0.N,
    win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_4.index t = ![(grid0.coords t 0).val, 0, 0] ∧ win0_5.index t = ![0, 0] ∧ win0_6.index t = ![0, 0]
    ∧ win0_7.index t = ![0, 0] ∧ win0_8.index t = ![0, 0] ∧ win0_9.index t = ![0, 0]
    ∧ win0_10.index t = ![(grid0.coords t 0).val, 0, 0] :=
  (by decide +kernel : ∀ t : Fin grid0.N, _)

/-- The document of a grid point. -/
def doc (t : Fin cfg0.N) : Fin 4 := ⟨(grid0.coords t 0).val, (grid0.coords t 0).isLt⟩

/-- The words' vectors as the kernel receives them, the tokens of a document in one row. -/
theorem wa_entry (b : Fin 4) (l : Fin 1024) (x : Fin 256) :
    V m c main_call0_v0 (ix3 b l x) = m ((c : Thread nD τ).loc main_arg0) (ix4 b (edu l) (word l) x) := by
  unfold edu word
  entry_read
  pointwise []

/-- The synonyms' vectors as the kernel receives them, the tokens of a document in one row. -/
theorem sa_entry (b : Fin 4) (l : Fin 1024) (x : Fin 256) :
    V m c main_call0_v1 (ix3 b l x) = m ((c : Thread nD τ).loc main_arg2) (ix4 b (edu l) (word l) x) := by
  unfold edu word
  entry_read
  pointwise []

/-- The mask as the kernel receives it, the tokens of a document in one row. -/
theorem mask_entry (b : Fin 4) (l : Fin 1024) :
    V m c main_call0_v2 (ix3 b 0 l) = m ((c : Thread nD τ).loc main_arg4) (ix3 b (edu l) (word l)) := by
  unfold edu word
  entry_read
  pointwise []

/-- The first layer's bias as one row. -/
theorem b1_entry (k : Fin 256) :
    V m c main_call0_v3 (ix2 0 k) = m ((c : Thread nD τ).loc main_arg6) (ix1 k) := by
  entry_read
  pointwise []

/-- The second layer's weights as one row. -/
theorem w2_entry (k : Fin 256) :
    V m c main_call0_v4 (ix2 0 k) = m ((c : Thread nD τ).loc main_arg7) (ix2 k 0) := by
  entry_read
  pointwise []

/-- The last layer's bias as one row. -/
theorem b3_entry (n : Fin 256) :
    V m c main_call0_v5 (ix2 0 n) = m ((c : Thread nD τ).loc main_arg10) (ix1 n) := by
  entry_read
  pointwise []

/-- The words' vectors a grid point loads. -/
theorem wa_block (t : Fin cfg0.N) (l : Fin 1024) (x : Fin 256) :
    iblk m c 0 t (ix3 0 l x) = m ((c : Thread nD τ).loc main_arg0) (ix4 (doc t) (edu l) (word l) x) := by
  have h : iblk m c 0 t (ix3 0 l x) = V m c main_call0_v0 (ix3 (doc t) l x) := by
    unfold doc
    blk_ext [iblk, idx t]
  exact h.trans (wa_entry m c (doc t) l x)

/-- The synonyms' vectors a grid point loads. -/
theorem sa_block (t : Fin cfg0.N) (l : Fin 1024) (x : Fin 256) :
    iblk m c 1 t (ix3 0 l x) = m ((c : Thread nD τ).loc main_arg2) (ix4 (doc t) (edu l) (word l) x) := by
  have h : iblk m c 1 t (ix3 0 l x) = V m c main_call0_v1 (ix3 (doc t) l x) := by
    unfold doc
    blk_ext [iblk, idx t]
  exact h.trans (sa_entry m c (doc t) l x)

/-- The words' weighted vectors a grid point loads. -/
theorem ww_block (t : Fin cfg0.N) (e : Fin 16) (x : Fin 256) :
    iblk m c 2 t (ix3 0 e x) = m ((c : Thread nD τ).loc main_arg1) (ix3 (doc t) e x) := by
  unfold doc
  blk_ext [iblk, V, idx t]

/-- The synonyms' weighted vectors a grid point loads. -/
theorem sw_block (t : Fin cfg0.N) (e : Fin 16) (x : Fin 256) :
    iblk m c 3 t (ix3 0 e x) = m ((c : Thread nD τ).loc main_arg3) (ix3 (doc t) e x) := by
  unfold doc
  blk_ext [iblk, V, idx t]

/-- The mask a grid point loads. -/
theorem mask_block (t : Fin cfg0.N) (l : Fin 1024) :
    iblk m c 4 t (ix3 0 0 l) = m ((c : Thread nD τ).loc main_arg4) (ix3 (doc t) (edu l) (word l)) := by
  have h : iblk m c 4 t (ix3 0 0 l) = V m c main_call0_v2 (ix3 (doc t) 0 l) := by
    unfold doc
    blk_ext [iblk, idx t]
  exact h.trans (mask_entry m c (doc t) l)

/-- The first layer's weights a grid point loads. -/
theorem w1_block (t : Fin cfg0.N) (h : Fin 512) (k : Fin 256) :
    iblk m c 5 t (ix2 h k) = m ((c : Thread nD τ).loc main_arg5) (ix2 h k) := by
  blk_ext [iblk, V, idx t]

/-- The first layer's bias a grid point loads. -/
theorem b1_block (t : Fin cfg0.N) (k : Fin 256) :
    iblk m c 6 t (ix2 0 k) = m ((c : Thread nD τ).loc main_arg6) (ix1 k) := by
  have h : iblk m c 6 t (ix2 0 k) = V m c main_call0_v3 (ix2 0 k) := by
    blk_ext [iblk, idx t]
  exact h.trans (b1_entry m c k)

/-- The second layer's weights a grid point loads. -/
theorem w2_block (t : Fin cfg0.N) (k : Fin 256) :
    iblk m c 7 t (ix2 0 k) = m ((c : Thread nD τ).loc main_arg7) (ix2 k 0) := by
  have h : iblk m c 7 t (ix2 0 k) = V m c main_call0_v4 (ix2 0 k) := by
    blk_ext [iblk, idx t]
  exact h.trans (w2_entry m c k)

/-- The last layer's weights a grid point loads. -/
theorem w3_block (t : Fin cfg0.N) (h : Fin 512) (k : Fin 256) :
    iblk m c 8 t (ix2 h k) = m ((c : Thread nD τ).loc main_arg9) (ix2 h k) := by
  blk_ext [iblk, V, idx t]

/-- The last layer's bias a grid point loads. -/
theorem b3_block (t : Fin cfg0.N) (n : Fin 256) :
    iblk m c 9 t (ix2 0 n) = m ((c : Thread nD τ).loc main_arg10) (ix1 n) := by
  have h : iblk m c 9 t (ix2 0 n) = V m c main_call0_v5 (ix2 0 n) := by
    blk_ext [iblk, idx t]
  exact h.trans (b3_entry m c n)

/-- The kernel's result over the arguments of a core: at document `i 0`, edu `i 1` and column `i 2` it is `kernelEntry`. -/
def kernelResult (i : S4x16x256.Idx) : EReal :=
  kernelEntry (fun j k x => m ((c : Thread nD τ).loc main_arg0) (ix4 (i 0) j k x))
    (fun j k x => m ((c : Thread nD τ).loc main_arg2) (ix4 (i 0) j k x))
    (fun x => m ((c : Thread nD τ).loc main_arg1) (ix3 (i 0) (i 1) x))
    (fun x => m ((c : Thread nD τ).loc main_arg3) (ix3 (i 0) (i 1) x))
    (fun j k => m ((c : Thread nD τ).loc main_arg4) (ix3 (i 0) j k))
    (fun h k => m ((c : Thread nD τ).loc main_arg5) (ix2 h k))
    (fun k => m ((c : Thread nD τ).loc main_arg6) (ix1 k))
    (fun k => m ((c : Thread nD τ).loc main_arg7) (ix2 k 0))
    (fun h => m ((c : Thread nD τ).loc main_arg9) (ix2 h (i 2)))
    (m ((c : Thread nD τ).loc main_arg10) (ix1 (i 2)))

/-- What a grid point stores at edu `e` and column `n` is the result at its document, `e` and `n`. -/
theorem stored_eq (t : Fin cfg0.N) (e : Fin 16) (n : Fin 256) :
    k0_pay1 (iblk m c 8 t) (k0_pay3 (iblk m c 9 t)) (k0_pay10 (k0_pay2 (iblk m c 4 t))
        (k0_pay4 (iblk m c 0 t) (iblk m c 1 t)) (k0_pay5 (iblk m c 2 t) (iblk m c 3 t))
        (k0_pay6 (iblk m c 0 t) (iblk m c 1 t) (iblk m c 5 t))
        (k0_pay7 (iblk m c 2 t) (iblk m c 3 t) (iblk m c 5 t) (iblk m c 6 t)) (k0_pay8 (iblk m c 7 t))
        (k0_pay9 (iblk m c 0 t) (iblk m c 1 t) (iblk m c 2 t) (iblk m c 3 t) (iblk m c 5 t) (iblk m c 6 t)))
        (ix3 0 e n) = kernelResult m c (ix3 (doc t) e n) := by
  rw [stored_read]
  unfold kernelResult kernelEntry token
  simp only [wa_block, sa_block, ww_block, sw_block, mask_block, w1_block, b1_block, w2_block, w3_block, b3_block]
  rfl

/-- The result array after the run. -/
theorem final : (dats m 0 c).arrAt 10 cfg0.N = kernelResult m c := by
  refine (dats m 0 c).arrAt_eq_of_covers 10 _ (by decide +kernel) fun t hf y => ?_
  blk_simp
  rw [after0_10]
  frame_out
  have hy : ∃ (e : Fin 16) (n : Fin 256), y = (ix3 0 e n : S1x16x256.Idx) := ⟨y 1, y 2, by
    refine (eq_ix3 (n0 := 1) (n1 := 16) (n2 := 256) y).trans ?_
    rw [Subsingleton.elim (α := Fin 1) (y 0) 0]⟩
  obtain ⟨e, n, rfl⟩ := hy
  refine (stored_eq m c t e n).trans (congrArg _ ?_)
  unfold doc
  blk_ext [idx t]

end Cert.Attn

end
-- ==== Proof.RefValue.lean ====
/- What the reference computes: its result, entry by entry, is `refEntry` of Spec.lean over its arguments. -/
module

public import proofs.«01_k».proof.Proof.Spec
public import proofs.«01_k».proof.Proof.Gen.ReferenceIdeal.Read
public import Idealize.ShloMosaic.Lib.Pointwise

@[expose] public section

set_option maxRecDepth 16384

noncomputable section

namespace Cert.Attn.Ref

open Cert.ReferenceIdeal Cert.ReferenceIdeal.Gen Cert.ReferenceIdeal.Read Idealize.ShloMosaic

variable (x0 : (⟨S4x16x64x256, .f32⟩ : BufTy).Contents (Elt Ideal)) (x1 : (⟨S4x16x256, .f32⟩ : BufTy).Contents (Elt Ideal))
  (x2 : (⟨S4x16x64x256, .f32⟩ : BufTy).Contents (Elt Ideal)) (x3 : (⟨S4x16x256, .f32⟩ : BufTy).Contents (Elt Ideal))
  (x4 : (⟨S4x16x64, .f32⟩ : BufTy).Contents (Elt Ideal)) (x5 : (⟨S512x256, .f32⟩ : BufTy).Contents (Elt Ideal))
  (x6 : (⟨S256, .f32⟩ : BufTy).Contents (Elt Ideal)) (x7 : (⟨S256x1, .f32⟩ : BufTy).Contents (Elt Ideal))
  (x8 : (⟨S1, .f32⟩ : BufTy).Contents (Elt Ideal)) (x9 : (⟨S512x256, .f32⟩ : BufTy).Contents (Elt Ideal))
  (x10 : (⟨S256, .f32⟩ : BufTy).Contents (Elt Ideal)) (b : Fin 4) (e : Fin 16)

/-- A token's vector. -/
theorem emb_read (l : Fin 1024) (h : Fin 512) :
    val_main_v3 x0 x2 (ix3 b l h) = token (fun i j x => x0 (ix4 b i j x)) (fun i j x => x2 (ix4 b i j x)) l h := by
  unfold token join edu word
  pointwise [val_main_v3, val_main_v0, val_main_v1]

/-- An edu's weighted vector. -/
theorem wtd_read (h : Fin 512) :
    val_main_v4 x1 x3 (ix3 b e h) = join (fun x => x1 (ix3 b e x)) (fun x => x3 (ix3 b e x)) h := by
  unfold join
  pointwise [val_main_v4]

/-- The mask of a token. -/
theorem mask_read (l : Fin 1024) : val_main_v2 x4 (ix2 b l) = x4 (ix3 b (edu l) (word l)) := by
  unfold edu word
  pointwise [val_main_v2]

/-- The hyperbolic tangent of the first layer. -/
theorem tanh_read (l : Fin 1024) (k : Fin 256) :
    val_main_v14 x0 x1 x2 x3 x5 x6 (ix4 b e l k) =
      Ideal.tanh ((∑ h : Fin 512, (val_main_v3 x0 x2 (ix3 b l h) - val_main_v4 x1 x3 (ix3 b e h)) * x5 (ix2 h k))
        + x6 (ix1 k)) := by
  pointwise [val_main_v14, val_main_v13, val_main_v12, val_main_v11, val_main_v10, val_main_v9, val_main_v8,
    val_main_v7, val_main_v6, val_main_v5]

/-- The score of a token for an edu, before the mask. -/
theorem score_read (l : Fin 1024) :
    val_main_v19 x0 x1 x2 x3 x5 x6 x7 x8 (ix3 b e l) =
      refScore (token (fun i j x => x0 (ix4 b i j x)) (fun i j x => x2 (ix4 b i j x)) l)
        (join (fun x => x1 (ix3 b e x)) fun x => x3 (ix3 b e x)) (fun h k => x5 (ix2 h k)) (fun k => x6 (ix1 k))
        (fun k => x7 (ix2 k 0)) (x8 (ix1 0)) := by
  unfold refScore
  pointwise [val_main_v19, val_main_v18, val_main_v17, val_main_v16, val_main_v15]
  simp only [tanh_read, emb_read, wtd_read]

/-- The score of a token for an edu, under the mask. -/
theorem masked_read (l : Fin 1024) :
    val_main_v23 x0 x1 x2 x3 x4 x5 x6 x7 x8 (ix3 b e l) =
      masked (fun l => x4 (ix3 b (edu l) (word l)))
        (fun l => val_main_v19 x0 x1 x2 x3 x5 x6 x7 x8 (ix3 b e l)) l := by
  unfold masked
  pointwise [val_main_v23, val_main_call0_v0, val_main_call0_v1, val_main_call0_v2, val_main_cst_0, val_main_v22,
    val_main_v21, val_main_v20, val_main_cst]
  simp only [mask_read, id_eq, constant, FloatOps.ofBits, neg_inf_value]

/-- The largest score of an edu. -/
theorem top_read :
    val_main_v26 x0 x1 x2 x3 x4 x5 x6 x7 x8 (ix2 b e) =
      top fun l => val_main_v23 x0 x1 x2 x3 x4 x5 x6 x7 x8 (ix3 b e l) := by
  unfold top
  pointwise [val_main_v26, val_main_v25, val_main_v24, val_main_cst_1, val_main_cst_2]
  simp only [neg_inf_value, bot_le, sup_of_le_right, max_eq_right]

/-- The exponential of a score's distance from the largest. -/
theorem exp_read (l : Fin 1024) :
    val_main_v30 x0 x1 x2 x3 x4 x5 x6 x7 x8 (ix3 b e l) =
      Ideal.exp (val_main_v23 x0 x1 x2 x3 x4 x5 x6 x7 x8 (ix3 b e l)
        - top fun k => val_main_v23 x0 x1 x2 x3 x4 x5 x6 x7 x8 (ix3 b e k)) := by
  rw [← top_read]
  pointwise [val_main_v30, val_main_v29, val_main_v28, val_main_v27]

/-- The softmax weight of a token. -/
theorem weight_read (l : Fin 1024) :
    val_main_v34 x0 x1 x2 x3 x4 x5 x6 x7 x8 (ix3 b e l) =
      weight (fun k => val_main_v23 x0 x1 x2 x3 x4 x5 x6 x7 x8 (ix3 b e k)) l := by
  unfold weight
  pointwise [val_main_v34, val_main_v33, val_main_v32, val_main_v31, val_main_cst_3]
  simp only [exp_read]

/-- The pooled vector plus the weighted vector. -/
theorem pooled_read (h : Fin 512) :
    val_main_v36 x0 x1 x2 x3 x4 x5 x6 x7 x8 (ix3 b e h) =
      (∑ l : Fin 1024, val_main_v34 x0 x1 x2 x3 x4 x5 x6 x7 x8 (ix3 b e l) * val_main_v3 x0 x2 (ix3 b l h))
        + val_main_v4 x1 x3 (ix3 b e h) := by
  pointwise [val_main_v36, val_main_v35]

/-- The reference's result at document `b`, edu `e` and column `n`. -/
theorem result_read (n : Fin 256) :
    val_main_v40 x0 x1 x2 x3 x4 x5 x6 x7 x8 x9 x10 (ix3 b e n) =
      refEntry (fun i j x => x0 (ix4 b i j x)) (fun i j x => x2 (ix4 b i j x)) (fun x => x1 (ix3 b e x))
        (fun x => x3 (ix3 b e x)) (fun i j => x4 (ix3 b i j)) (fun h k => x5 (ix2 h k)) (fun k => x6 (ix1 k))
        (fun k => x7 (ix2 k 0)) (x8 (ix1 0)) (fun h => x9 (ix2 h n)) (x10 (ix1 n)) := by
  unfold refEntry output
  pointwise [val_main_v40, val_main_v39, val_main_v38, val_main_v37]
  have hs : (fun l => val_main_v23 x0 x1 x2 x3 x4 x5 x6 x7 x8 (ix3 b e l)) =
      masked (fun l => x4 (ix3 b (edu l) (word l))) fun l =>
        refScore (token (fun i j x => x0 (ix4 b i j x)) (fun i j x => x2 (ix4 b i j x)) l)
          (join (fun x => x1 (ix3 b e x)) fun x => x3 (ix3 b e x)) (fun h k => x5 (ix2 h k)) (fun k => x6 (ix1 k))
          (fun k => x7 (ix2 k 0)) (x8 (ix1 0)) := by
    funext l
    rw [masked_read]
    simp only [score_read]
  simp only [pooled_read, weight_read, hs, emb_read, wtd_read]

end Cert.Attn.Ref

end
-- ==== Proof.Pre.lean ====
/- What the precondition says: the entries of the weighted vectors, of the first layer's weights and of the second
   layer's bias are real numbers. -/
module

public import proofs.«01_k».proof.Defs
public import proofs.«01_k».proof.Proof.Spec
public import proofs.«01_k».proof.Proof.Gen.Pre_finite

@[expose] public section

noncomputable section

namespace Cert.Attn

open Idealize.ShloMosaic Idealize.ShloMosaic.TcCoe
open Cert.KernelIdeal

/-- The word of plus infinity. -/
theorem pos_inf_value : (Ideal.ofBits .f32 0x7F800000#32 : EReal) = ⊤ := by
  simp [Ideal.ofBits, Ideal.ieee]

/-- A value above minus infinity and below plus infinity is a real number. -/
theorem real_of_bits (x : EReal)
    (h : IntOp.andi (FloatOps.cmpf (F := Ideal) (φ := .f32) .ogt x (FloatOps.ofBits .f32 0xFF800000#32))
      (FloatOps.cmpf (F := Ideal) (φ := .f32) .olt x (FloatOps.ofBits .f32 0x7F800000#32)) = 1#1) :
    ∃ r : ℝ, x = (r : EReal) := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [FloatOps.cmpf, FloatOps.ofBits, neg_inf_value, pos_inf_value, Ideal.cmp, andi_ofBool, ofBool_eq_one, Bool.and_eq_true, decide_eq_true_eq] at h
  obtain ⟨h1, h2⟩ := h
  exact ⟨x.toReal, (EReal.coe_toReal h2.ne h1.ne').symm⟩

variable (m : (ℓ : Loc nD τ sig) → Buf (Elt Ideal) ℓ) (h : Pre_KernelIdeal_finite m) (c : Dev nD)
include h

/-- The words' weighted vectors are real. -/
theorem ww_real (i : S4x16x256.Idx) : ∃ r : ℝ, m ((c : Thread nD τ).loc main_arg1) i = (r : EReal) :=
  real_of_bits _ (congrFun (h c).1 i)

/-- The synonyms' weighted vectors are real. -/
theorem sw_real (i : S4x16x256.Idx) : ∃ r : ℝ, m ((c : Thread nD τ).loc main_arg3) i = (r : EReal) :=
  real_of_bits _ (congrFun (h c).2.1 i)

/-- The first layer's weights are real. -/
theorem w1_real (i : S512x256.Idx) : ∃ r : ℝ, m ((c : Thread nD τ).loc main_arg5) i = (r : EReal) :=
  real_of_bits _ (congrFun (h c).2.2.1 i)

/-- The second layer's bias is real. -/
theorem b2_real (i : S1.Idx) : ∃ r : ℝ, m ((c : Thread nD τ).loc main_arg8) i = (r : EReal) :=
  real_of_bits _ (congrFun (h c).2.2.2 i)

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Pre_finite
public import proofs.«01_k».proof.Proof.Algebra
public import proofs.«01_k».proof.Proof.KernelValue
public import proofs.«01_k».proof.Proof.RefValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and, naming no semaphore, with every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the precondition holds, what the reference computes from the kernel's arguments is the kernel's result. -/
theorem result_eq (m : (ℓ : Loc Cert.KernelIdeal.nD Cert.KernelIdeal.τ Cert.KernelIdeal.sig) → Buf (Elt Ideal) ℓ)
    (c : Dev Cert.KernelIdeal.nD) (h : Cert.Pre_KernelIdeal_finite m) :
    Cert.ReferenceIdeal.Read.val_main_v40 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      = Cert.Attn.kernelResult m c := by
  funext i
  rw [eq_ix3 (n0 := 4) (n1 := 16) (n2 := 256) i]
  refine (Cert.Attn.Ref.result_read _ _ _ _ _ _ _ _ _ _ _ _ _ _).trans (Eq.symm ?_)
  exact Cert.Attn.entry_eq _ _ _ _ _ _ _ _ _ _ _ (fun _ => Cert.Attn.ww_real m h c _) (fun _ => Cert.Attn.sw_real m h c _)
    (fun _ _ => Cert.Attn.w1_real m h c _) (Cert.Attn.b2_real m h c _)

/-- Both programs run, and end with equal results and unchanged arguments. -/
theorem algebraic : Cert.algebraic_KernelIdeal_ReferenceIdeal_pre_finite := by
  intro m g m' g' hpre hagree
  refine ⟨fun c => Cert.Attn.kernelResult m c,
    (θ_run Cert.KernelIdeal.defs _ _).mono (fun r h c => ⟨(h c).1.trans (Cert.Attn.final m c), (h c).2⟩)
      (Cert.KernelIdeal.Value.run_blocks m g),
    (θ_run Cert.ReferenceIdeal.defs _ _).mono (fun r h c => ⟨(h c).1.trans ?_, (h c).2⟩)
      (Cert.ReferenceIdeal.Value.run (F := Ideal) m' g')⟩
  obtain ⟨h0, h1, h2, h3, h4, h5, h6, h7, h8, h9, h10⟩ := hagree c
  rw [Cert.ReferenceIdeal.Read.val_main_v40_eq, h0, h1, h2, h3, h4, h5, h6, h7, h8, h9, h10]
  exact result_eq m c hpre

/-- The claims, all of them. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    IdealRules.named_const.statement Cert.KernelIdeal.κ "mask" .f32 0xF149F2CA#32 ⊥ rfl, algebraic⟩

end Cert.Proof

end
